-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scores [hPre_positive_scores : Cert.Pre_positive_scores.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_positive_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scores [hPre_positive_scores : Cert.Pre_positive_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_positive_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_positive_scores [hKernelIdeal : Cert.KernelIdeal.Facts] [hPre_positive_scores : Cert.Pre_positive_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positive_scores [hReferenceIdeal : Cert.ReferenceIdeal.Facts] [hPre_positive_scores : Cert.Pre_positive_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "neg_ln2_over_n" .f32 0xB4B17218#32 (((-(Real.log 2)) * 2097152⁻¹ : ℝ) : EReal)

def algebraic_KernelIdeal_ReferenceIdeal_pre_positive_scores [hKernelIdeal : Cert.KernelIdeal.Facts] [hReferenceIdeal : Cert.ReferenceIdeal.Facts] [hPre_positive_scores : Cert.Pre_positive_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positive_scores : Cert.Pre_positive_scores.Facts),
    quiescent_Kernel (hKernel := hKernel)
    ∧ quiescent_KernelIdeal (hKernelIdeal := hKernelIdeal)
    ∧ quiescent_KernelIdeal_pre_positive_scores (hKernelIdeal := hKernelIdeal) (hPre_positive_scores := hPre_positive_scores)
    ∧ quiescent_ReferenceIdeal (hReferenceIdeal := hReferenceIdeal)
    ∧ quiescent_ReferenceIdeal_pre_positive_scores (hReferenceIdeal := hReferenceIdeal) (hPre_positive_scores := hPre_positive_scores)
    ∧ preserves_Kernel_KernelIdeal
    ∧ algebraic_KernelIdeal_ReferenceIdeal_pre_positive_scores (hKernelIdeal := hKernelIdeal) (hReferenceIdeal := hReferenceIdeal) (hPre_positive_scores := hPre_positive_scores)
-- ==== Pre_positive_scores.lean ====
abbrev S8x2x512x512 : Shape := ⟨4, ![8, 2, 512, 512]⟩
abbrev S8x512x512 : Shape := ⟨3, ![8, 512, 512]⟩
abbrev S8x128x64x64 : Shape := ⟨4, ![8, 128, 64, 64]⟩
abbrev S_ : Shape := ⟨0, ![]⟩

class Facts : Prop where
  bcast_S_S8x2x512x512 : S_.BroadcastsInDim S8x2x512x512 (![] : Fin 0 → Fin S8x2x512x512.rank)
  bcast_S_S8x512x512 : S_.BroadcastsInDim S8x512x512 (![] : Fin 0 → Fin S8x512x512.rank)

variable [Facts]

def fn {F : FTy → Type} [FloatOps F] (main_arg0 : FVec F S8x2x512x512 .f32) (main_arg1 : FVec F S8x512x512 .f32) (main_arg2 : FVec F S8x128x64x64 .f32) : IVec S8x2x512x512 1 × IVec S8x512x512 1 :=
  let main_cst : FVec F S_ .f32 := constant S_ .f32 0x00000000#32
  let main_v0 : FVec F S8x2x512x512 .f32 := broadcastInDim S8x2x512x512 ![] bcast_S_S8x2x512x512 main_cst
  let main_v1 : IVec S8x2x512x512 1 := cmpf .ogt main_arg0 main_v0
  let main_cst_0 : FVec F S_ .f32 := constant S_ .f32 0x7F800000#32
  let main_v2 : FVec F S8x2x512x512 .f32 := broadcastInDim S8x2x512x512 ![] bcast_S_S8x2x512x512 main_cst_0
  let main_v3 : IVec S8x2x512x512 1 := cmpf .olt main_arg0 main_v2
  let main_v4 : IVec S8x2x512x512 1 := andi main_v1 main_v3
  let main_cst_1 : FVec F S_ .f32 := constant S_ .f32 0xFF800000#32
  let main_v5 : FVec F S8x512x512 .f32 := broadcastInDim S8x512x512 ![] bcast_S_S8x512x512 main_cst_1
  let main_v6 : IVec S8x512x512 1 := cmpf .ogt main_arg1 main_v5
  let main_cst_2 : FVec F S_ .f32 := constant S_ .f32 0x7F800000#32
  let main_v7 : FVec F S8x512x512 .f32 := broadcastInDim S8x512x512 ![] bcast_S_S8x512x512 main_cst_2
  let main_v8 : IVec S8x512x512 1 := cmpf .olt main_arg1 main_v7
  let main_v9 : IVec S8x512x512 1 := andi main_v6 main_v8
  (main_v4, main_v9)
-- ==== Kernel.lean ====
abbrev S8x2x512x512 : Shape := ⟨4, ![8, 2, 512, 512]⟩
abbrev S8x512x512 : Shape := ⟨3, ![8, 512, 512]⟩
abbrev S8x128x64x64 : Shape := ⟨4, ![8, 128, 64, 64]⟩
abbrev S16x512x512 : Shape := ⟨3, ![16, 512, 512]⟩
abbrev S1x1 : Shape := ⟨2, ![1, 1]⟩
abbrev S4x512x512 : Shape := ⟨3, ![4, 512, 512]⟩
abbrev S512x512 : Shape := ⟨2, ![512, 512]⟩
abbrev S1x64x512 : Shape := ⟨3, ![1, 64, 512]⟩
abbrev S64x512 : Shape := ⟨2, ![64, 512]⟩
abbrev S1x8x512 : Shape := ⟨3, ![1, 8, 512]⟩
abbrev S8x512 : Shape := ⟨2, ![8, 512]⟩
abbrev S1x56x512 : Shape := ⟨3, ![1, 56, 512]⟩
abbrev S56x512 : Shape := ⟨2, ![56, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 5
  | .smem => 1
  | _ => 0

abbrev bufTy : (tb : Table) → Fin (tcTables nBuf tb) → BufTy
  | .hbm, ⟨0, _⟩ => ⟨S8x2x512x512, .f32⟩
  | .hbm, ⟨1, _⟩ => ⟨S8x512x512, .f32⟩
  | .hbm, ⟨2, _⟩ => ⟨S8x128x64x64, .f32⟩
  | .hbm, ⟨3, _⟩ => ⟨S16x512x512, .f32⟩
  | .hbm, ⟨4, _⟩ => ⟨S1x1, .f32⟩
  | .hbm, ⟨5, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S4x512x512, .f32⟩
  | .local _ .vmem, ⟨3, _⟩ => ⟨S4x512x512, .f32⟩
  | .local _ .vmem, ⟨4, _⟩ => ⟨S512x512, .f32⟩
  | .local _ .smem, ⟨0, _⟩ => ⟨S1x1, .f32⟩
  | _, _ => ⟨S8x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v835 : BitVec 1 := Scalar.cmpi .eq arg0 c1_i32
  let v836 : BitVec 32 := Scalar.extui v835
  let c0_i32_585 : BitVec 32 := 0#32
  let v837 : BitVec 1 := Scalar.cmpi .ne v836 c0_i32_585
  v837

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_ln2" => some (((Real.log 2)⁻¹ : ℝ) : EReal)
  | "neg_ln2_over_n" => some (((-(Real.log 2)) * 2097152⁻¹ : ℝ) : EReal)
  | _ => none
-- ==== ReferenceIdeal.lean ====
abbrev S8x2x512x512 : Shape := ⟨4, ![8, 2, 512, 512]⟩
abbrev S8x512x512 : Shape := ⟨3, ![8, 512, 512]⟩
abbrev S8x128x64x64 : Shape := ⟨4, ![8, 128, 64, 64]⟩
abbrev S8x1x512x512 : Shape := ⟨4, ![8, 1, 512, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2x512x512, .f32⟩
  | .hbm, ⟨1, _⟩ => ⟨S8x512x512, .f32⟩
  | .hbm, ⟨2, _⟩ => ⟨S8x128x64x64, .f32⟩
  | .hbm, ⟨3, _⟩ => ⟨S8x1x512x512, .f32⟩
  | .hbm, ⟨4, _⟩ => ⟨S_, .f32⟩
  | .hbm, ⟨5, _⟩ => ⟨S8x1x512x512, .f32⟩
  | .hbm, ⟨6, _⟩ => ⟨S8x1x512x512, .f32⟩
  | .hbm, ⟨7, _⟩ => ⟨S8x2x512x512, .f32⟩
  | .hbm, ⟨8, _⟩ => ⟨S8x2x512x512, .f32⟩
  | .hbm, ⟨9, _⟩ => ⟨S8x2x512x512, .f32⟩
  | .hbm, ⟨10, _⟩ => ⟨S_, .f32⟩
  | .hbm, ⟨11, _⟩ => ⟨S8x512x512, .f32⟩
  | .hbm, ⟨12, _⟩ => ⟨S8x512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S8x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.K.Chunk.lean ====
/-
  What one row chunk of the kernel's loop computes (hand-written): a chunk's store leaves, at each of its places, what
  the accumulator held there plus the image's term, and 32 such stores leave the four images' terms at every place.
-/
module

public import proofs.«01_k».proof.Proof.Gen.KernelIdeal.Frame
public import Idealize.ShloMosaic.Lib.Pointwise

@[expose] public section

noncomputable section

namespace Cert.KernelIdeal.Value

open Cert.KernelIdeal Cert.KernelIdeal.Gen
open Idealize.ShloMosaic Idealize.ShloMosaic.TcCoe

/-- The named constant `1 / log 2`, as an extended real. -/
abbrev invLn2 : EReal := (((Real.log 2)⁻¹ : ℝ) : EReal)

/-- The base-two logarithm as the kernel takes it: the natural logarithm times `1 / log 2`. -/
def lg (a : EReal) : EReal := Ideal.log a * invLn2

/-- One image's term at one place, from the place's two scores and its ground truth. -/
def mix (a0 a1 g : EReal) : EReal := lg a1 + g * (lg a0 - lg a1)

/-- Image `b`'s term at the place `y`, in a block of four images (`x0`: their eight score planes; `x1`: their ground
    truths); zero past the four. -/
def term (x0 : Vec Ideal S8x512x512 .f32) (x1 : Vec Ideal S4x512x512 .f32) (y : S512x512.Idx) (b : ℕ) : EReal :=
  if h : b < 4 then
    mix (x0 (ix3 (⟨2 * b, by omega⟩ : Fin 8) (y 0) (y 1))) (x0 (ix3 (⟨2 * b + 1, by omega⟩ : Fin 8) (y 0) (y 1)))
      (x1 (ix3 (⟨b, h⟩ : Fin 4) (y 0) (y 1)))
  else 0

/-- What a place holds after `n` images: its starting value, then the images' terms added one by one. -/
def total (x0 : Vec Ideal S8x512x512 .f32) (x1 : Vec Ideal S4x512x512 .f32) (base : S512x512.Idx → EReal) (y : S512x512.Idx) : ℕ → EReal
  | 0 => base y
  | n + 1 => total x0 x1 base y n + term x0 x1 y n

/-- The named constant `inv_ln2` is `1 / log 2`. -/
theorem named_inv_ln2 : Named.named (F := Ideal) κ "inv_ln2" (φ := .f32) 0x3FB8AA3B#32 = invLn2 :=
  IdealRules.named_const.ideal_named_scalar _ _ _ _ rfl

/-- A chunk's payload at a place of the chunk: the accumulator's value plus the term of the place's scores. -/
theorem pay_apply (a : Vec Ideal S1x64x512 .f32) (b : Vec Ideal S1x8x512 .f32) (d : Vec Ideal S1x56x512 .f32)
    (v : Vec Ideal S64x512 .f32) (g : Vec Ideal S1x64x512 .f32) (p : Fin 64) (q : Fin 512) :
    k0_pay4 a b d v g (ix2 p q) = v (ix2 p q)
      + mix (a (ix3 0 p q)) (if h : p.val < 8 then b (ix3 0 ⟨p.val, h⟩ q) else d (ix3 0 ⟨p.val - 8, by omega⟩ q)) (g (ix3 0 p q)) := by
  pointwise [k0_pay4]
  rw [named_inv_ln2]
  by_cases h : p.val < 8
  · simp only [dif_pos h, mix, lg]
  · simp only [dif_neg h, mix, lg]

/-- The rows of the accumulator a chunk reads and writes. -/
abbrev rows (o : ℕ) (h : ∀ a, (![o, 0] : Fin 2 → ℕ) a + S64x512.size a ≤ S512x512.size a) : Rect S512x512 :=
  Rect.unit ![o, 0] S64x512.size h

/-- The place of the accumulator at row `p` of the chunk at row `o`. -/
theorem rows_emb (o : ℕ) (h) (x : S64x512.Idx) :
    ((rows o h).emb x 0).val = o + (x 0).val ∧ ((rows o h).emb x 1).val = (x 1).val := by
  constructor
  · show o + 1 * (x 0).val = _; omega
  · show 0 + 1 * (x 1).val = _; omega

/-- A place of the chunk is one of its rows' places. -/
theorem rows_mem (o : ℕ) (h) (y : S512x512.Idx) (hm : y ∈ (rows o h).set) : ∃ x : S64x512.Idx, (rows o h).emb x = y :=
  (rows o h).exists_idx_of_mem hm

/-- A chunk's rows are the places whose row lies in the chunk. -/
theorem rows_iff (o : ℕ) (h) (y : S512x512.Idx) : y ∈ (rows o h).set ↔ o ≤ (y 0).val ∧ (y 0).val < o + 64 := by
  constructor
  · intro hm
    obtain ⟨x, rfl⟩ := rows_mem o h y hm
    obtain ⟨e0, -⟩ := rows_emb o h x
    have hx : (x 0).val < 64 := (x 0).isLt
    omega
  · intro hy
    exact Rect.mem_set_unit.mpr fun a => by
      match a with
      | ⟨0, _⟩ => exact hy
      | ⟨1, _⟩ => show 0 ≤ (y 1).val ∧ (y 1).val < 0 + 512; have h1 : (y 1).val < 512 := (y 1).isLt; omega

/-- After a chunk's store, a place of the chunk holds the store's payload there. -/
theorem canon_rows (o : ℕ) (h) (w : Vec Ideal S64x512 .f32) (L : List (View.Piece (Elt Ideal) S512x512 .f32)) (x : S64x512.Idx) :
    View.canon ((⟨rows o h, w⟩ : View.Piece (Elt Ideal) S512x512 .f32) :: L) ((rows o h).emb x) = w x :=
  View.canon_cons_emb (Val := Elt Ideal) (e := .f32) (rows o h) w L x

/-- Off the chunk, a place holds what the stores before left. -/
theorem canon_off (o : ℕ) (h) (w : Vec Ideal S64x512 .f32) (L : List (View.Piece (Elt Ideal) S512x512 .f32)) (y : S512x512.Idx)
    (hy : y ∉ (rows o h).set) :
    View.canon ((⟨rows o h, w⟩ : View.Piece (Elt Ideal) S512x512 .f32) :: L) y = View.canon L y :=
  View.canon_cons_of_not_mem (Val := Elt Ideal) (e := .f32) ⟨rows o h, w⟩ L hy

/-- A load of `n` rows of one plane, read at a place: the block at the plane, the place's row and its column. -/
theorem ld_rows {A n : ℕ} (X : (⟨3, ![A, 512, 512]⟩ : Shape).Idx → EReal) (c o : ℕ) (inb) (p : Fin n) (q : Fin 512)
    (hc : c < A) (y : S512x512.Idx) (h0 : (y 0).val = o + p.val) (h1 : (y 1).val = q.val) :
    View.ld (Val := Elt Ideal) (e' := .f32) X (Rect.unit (s := ⟨3, ![A, 512, 512]⟩) ![c, o, 0] ![1, n, 512] inb) (ix3 0 p q)
      = X (ix3 (⟨c, hc⟩ : Fin A) (y 0) (y 1)) := by
  show X _ = X _
  congr 1
  funext a
  apply Fin.ext
  match a with
  | ⟨0, _⟩ => show c + 1 * 0 = c; omega
  | ⟨1, _⟩ => show o + 1 * p.val = (y 0).val; omega
  | ⟨2, _⟩ => show 0 + 1 * q.val = (y 1).val; omega

/-- After `k` chunks' stores (image by image, the eight chunks of an image from the top) over a start `base`: every place
    written so far (every place at all, when `all` holds) holds its start plus the terms of the images it has met. -/
def Holds (all : Prop) (x0 : Vec Ideal S8x512x512 .f32) (x1 : Vec Ideal S4x512x512 .f32) (base : S512x512.Idx → EReal)
    (k : ℕ) (L : List (View.Piece (Elt Ideal) S512x512 .f32)) : Prop :=
  ∀ y : S512x512.Idx, (all ∨ (y 0).val / 64 < k) → View.canon L y = total x0 x1 base y ((k + 7 - (y 0).val / 64) / 8)

/-- A chunk's payload over the loads it makes, read at a place: the accumulator's value plus the image's term there. -/
theorem pay_loads (x0 : Vec Ideal S8x512x512 .f32) (x1 : Vec Ideal S4x512x512 .f32) (b o : ℕ) (hb : b < 4) (i0 i1 i2 i3)
    (v : Vec Ideal S64x512 .f32) (x : S64x512.Idx) (y : S512x512.Idx) (e0 : (y 0).val = o + (x 0).val) (e1 : (y 1).val = (x 1).val) :
    k0_pay4 (View.ld x0 (Rect.unit ![2 * b, o, 0] S1x64x512.size i0)) (View.ld x0 (Rect.unit ![2 * b + 1, o, 0] S1x8x512.size i1))
      (View.ld x0 (Rect.unit ![2 * b + 1, o + 8, 0] S1x56x512.size i2)) v (View.ld x1 (Rect.unit ![b, o, 0] S1x64x512.size i3)) x
      = v x + term x0 x1 y b := by
  obtain ⟨p, q, rfl⟩ : ∃ p q, x = ix2 p q := ⟨x 0, x 1, eq_ix2 x⟩
  change (y 0).val = o + p.val at e0
  change (y 1).val = q.val at e1
  rw [term, dif_pos hb, pay_apply, ld_rows x0 _ _ i0 p q (by omega) y e0 e1, ld_rows x1 _ _ i3 p q hb y e0 e1]
  congr 2
  split
  · rename_i hp
    exact ld_rows x0 _ _ i1 ⟨p.val, hp⟩ q (by omega) y e0 e1
  · rename_i hp
    exact ld_rows x0 _ _ i2 ⟨p.val - 8, by omega⟩ q (by omega) y (by show _ = o + 8 + (p.val - 8); omega) e1

variable {all : Prop} {x0 : Vec Ideal S8x512x512 .f32} {x1 : Vec Ideal S4x512x512 .f32} {base : S512x512.Idx → EReal} {k : ℕ}
  {L : List (View.Piece (Elt Ideal) S512x512 .f32)}

/-- ONE STORE: the chunk `k % 8` of the image `k / 8`, its accumulator rows `v` as the images before left them. -/
theorem Holds.store (h : Holds all x0 x1 base k L) (hk : k < 32) (o : ℕ) (ho : o = 64 * (k % 8))
    (ib : ∀ a, (![o, 0] : Fin 2 → ℕ) a + S64x512.size a ≤ S512x512.size a)
    (c0 c1 r8 g0 : ℕ)
    (i0 : ∀ a, (![c0, o, 0] : Fin 3 → ℕ) a + S1x64x512.size a ≤ S8x512x512.size a)
    (i1 : ∀ a, (![c1, o, 0] : Fin 3 → ℕ) a + S1x8x512.size a ≤ S8x512x512.size a)
    (i2 : ∀ a, (![c1, r8, 0] : Fin 3 → ℕ) a + S1x56x512.size a ≤ S8x512x512.size a)
    (i3 : ∀ a, (![g0, o, 0] : Fin 3 → ℕ) a + S1x64x512.size a ≤ S4x512x512.size a)
    (h0 : c0 = 2 * (k / 8)) (h1 : c1 = 2 * (k / 8) + 1) (h8 : r8 = o + 8) (hg : g0 = k / 8)
    (v : Vec Ideal S64x512 .f32) (hv : ∀ x, v x = total x0 x1 base ((rows o ib).emb x) (k / 8))
    (w : Vec Ideal S64x512 .f32)
    (hw : w = k0_pay4 (View.ld x0 (Rect.unit ![c0, o, 0] S1x64x512.size i0)) (View.ld x0 (Rect.unit ![c1, o, 0] S1x8x512.size i1))
      (View.ld x0 (Rect.unit ![c1, r8, 0] S1x56x512.size i2)) v (View.ld x1 (Rect.unit ![g0, o, 0] S1x64x512.size i3))) :
    Holds all x0 x1 base (k + 1) (⟨rows o ib, w⟩ :: L) := by
  subst ho h0 h1 h8 hg hw
  intro y hy
  by_cases hr : (y 0).val / 64 = k % 8
  · have hm := (rows_iff (64 * (k % 8)) ib y).mpr ⟨by omega, by omega⟩
    obtain ⟨x, hx⟩ := rows_mem _ ib y hm
    obtain ⟨e0, e1⟩ := rows_emb (64 * (k % 8)) ib x
    have hv := hv x
    rw [hr, show (k + 1 + 7 - k % 8) / 8 = k / 8 + 1 by omega, total]
    have hc := canon_rows (64 * (k % 8)) ib (k0_pay4 (View.ld x0 (Rect.unit ![2 * (k / 8), 64 * (k % 8), 0] S1x64x512.size i0))
      (View.ld x0 (Rect.unit ![2 * (k / 8) + 1, 64 * (k % 8), 0] S1x8x512.size i1))
      (View.ld x0 (Rect.unit ![2 * (k / 8) + 1, 64 * (k % 8) + 8, 0] S1x56x512.size i2)) v
      (View.ld x1 (Rect.unit ![k / 8, 64 * (k % 8), 0] S1x64x512.size i3))) L x
    rw [hx] at hc hv e0 e1
    rw [hc, ← hv]
    exact pay_loads x0 x1 _ _ (by omega) i0 i1 i2 i3 v x _ e0 e1
  · have hm : y ∉ (rows (64 * (k % 8)) ib).set := fun hm => by
      have := (rows_iff _ ib y).mp hm
      omega
    have hy0 : (y 0).val < 512 := (y 0).isLt
    rw [canon_off _ ib _ L y hm, h y (by rcases hy with hy | hy; exacts [.inl hy, .inr (by omega)])]
    congr 1
    omega

/-- The store's accumulator rows where they were read back out of the stores before. -/
theorem Holds.read {sig : RefSig} {κ : Kind} {sp : Space} (h : Holds all x0 x1 base k L) (hk : all ∨ 8 ≤ k) (h32 : k < 32)
    (v : View sig κ sp S512x512 .f32) (o : ℕ) (ho : o = 64 * (k % 8)) (ib) (x : S64x512.Idx) :
    v.readCov L (rows o ib).toLoadRect x = total x0 x1 base ((rows o ib).emb x) (k / 8) := by
  subst ho
  rw [View.readCov_eq_canon']
  obtain ⟨e0, -⟩ := rows_emb (64 * (k % 8)) ib x
  have hx : (x 0).val < 64 := (x 0).isLt
  refine (h ((rows (64 * (k % 8)) ib).emb x) (hk.imp id fun _ => by omega)).trans ?_
  congr 1
  omega

/-- The store's accumulator rows where they are the start's, untouched so far. -/
theorem start_read (hk : k < 8) (o : ℕ) (ib) (x : S64x512.Idx) :
    View.ld (Val := Elt Ideal) (e' := .f32) base (rows o ib) x = total x0 x1 base ((rows o ib).emb x) (k / 8) := by
  rw [Nat.div_eq_of_lt hk]; rfl

end Cert.KernelIdeal.Value

end
-- ==== Proof.K.Stores.lean ====
/-
  The kernel's 32 stores of one grid point, in both of its cases (hand-written): the accumulator ends, at every place, at
  its start plus the four images' terms.
-/
module

public import proofs.«01_k».proof.Proof.K.Chunk

@[expose] public section

noncomputable section

namespace Cert.KernelIdeal.Value

open Cert.KernelIdeal Cert.KernelIdeal.Gen
open Idealize.ShloMosaic Idealize.ShloMosaic.TcCoe

/-- Chunk `k` loads 64 rows inside the score block … -/
theorem in64 (c o : ℕ) (A : ℕ) (hc : c < A) (ho : o + 64 ≤ 512) :
    ∀ a, (![c, o, 0] : Fin 3 → ℕ) a + S1x64x512.size a ≤ (⟨3, ![A, 512, 512]⟩ : Shape).size a := fun a => by
  match a with
  | ⟨0, _⟩ => exact hc
  | ⟨1, _⟩ => exact ho
  | ⟨2, _⟩ => exact Nat.le_refl 512

/-- … 8 rows … -/
theorem in8 (c o : ℕ) (A : ℕ) (hc : c < A) (ho : o + 8 ≤ 512) :
    ∀ a, (![c, o, 0] : Fin 3 → ℕ) a + S1x8x512.size a ≤ (⟨3, ![A, 512, 512]⟩ : Shape).size a := fun a => by
  match a with
  | ⟨0, _⟩ => exact hc
  | ⟨1, _⟩ => exact ho
  | ⟨2, _⟩ => exact Nat.le_refl 512

/-- … and the other 56. -/
theorem in56 (c o : ℕ) (A : ℕ) (hc : c < A) (ho : o + 56 ≤ 512) :
    ∀ a, (![c, o, 0] : Fin 3 → ℕ) a + S1x56x512.size a ≤ (⟨3, ![A, 512, 512]⟩ : Shape).size a := fun a => by
  match a with
  | ⟨0, _⟩ => exact hc
  | ⟨1, _⟩ => exact ho
  | ⟨2, _⟩ => exact Nat.le_refl 512

/-- The chunk's rows lie inside the accumulator. -/
theorem inRows (o : ℕ) (ho : o + 64 ≤ 512) :
    ∀ a, (![o, 0] : Fin 2 → ℕ) a + S64x512.size a ≤ S512x512.size a := fun a => by
  match a with
  | ⟨0, _⟩ => exact ho
  | ⟨1, _⟩ => exact Nat.le_refl 512

section Steps

variable (a1 : Memref sig .tc .vmem S8x512x512 .f32) (h1 : a1.IsWhole) (a2 : Memref sig .tc .vmem S4x512x512 .f32) (h2 : a2.IsWhole)
  (a4 : Memref sig .tc .vmem S512x512 .f32) (h4 : a4.IsWhole)
  (x0 : Vec Ideal S8x512x512 .f32) (x1 : Vec Ideal S4x512x512 .f32)

/-- The payload of store `k` (image `k / 8`, chunk `k % 8`) over its loads of the two blocks, its accumulator rows `v`. -/
def pay (k : ℕ) (hk : k < 32) (v : Vec Ideal S64x512 .f32) : Vec Ideal S64x512 .f32 :=
  k0_pay4
    (View.readAt (Elt Ideal) a1.view (Rect.unit ![2 * (k / 8), 64 * (k % 8), 0] S1x64x512.size (in64 _ _ 8 (by omega) (by omega)) : Rect S8x512x512).toLoadRect (h1.unread x0))
    (View.readAt (Elt Ideal) a1.view (Rect.unit ![2 * (k / 8) + 1, 64 * (k % 8), 0] S1x8x512.size (in8 _ _ 8 (by omega) (by omega)) : Rect S8x512x512).toLoadRect (h1.unread x0))
    (View.readAt (Elt Ideal) a1.view (Rect.unit ![2 * (k / 8) + 1, 64 * (k % 8) + 8, 0] S1x56x512.size (in56 _ _ 8 (by omega) (by omega)) : Rect S8x512x512).toLoadRect (h1.unread x0))
    v
    (View.readAt (Elt Ideal) a2.view (Rect.unit ![k / 8, 64 * (k % 8), 0] S1x64x512.size (in64 _ _ 4 (by omega) (by omega)) : Rect S4x512x512).toLoadRect (h2.unread x1))

variable {all : Prop} {base : S512x512.Idx → EReal} {L : List (View.Piece (Elt Ideal) S512x512 .f32)}

/-- A store whose accumulator rows are read back out of the stores before. -/
theorem step_read (k : ℕ) (hk : k < 32) (hall : all ∨ 8 ≤ k) (h : Holds all x0 x1 base k L) (w : Vec Ideal S64x512 .f32)
    (hw : w = pay a1 h1 a2 h2 x0 x1 k hk (a4.view.readCov L (rows (64 * (k % 8)) (inRows _ (by omega))).toLoadRect)) :
    Holds all x0 x1 base (k + 1) (⟨rows (64 * (k % 8)) (inRows _ (by omega)), w⟩ :: L) := by
  subst hw
  refine h.store hk _ rfl _ _ _ _ _ (in64 _ _ 8 (by omega) (by omega)) (in8 _ _ 8 (by omega) (by omega))
    (in56 _ _ 8 (by omega) (by omega)) (in64 _ _ 4 (by omega) (by omega)) rfl rfl rfl rfl _
    (h.read hall hk a4.view _ rfl _) _ ?_
  simp only [pay, View.readAt_eq_ld, h1.read_unread, h2.read_unread]

/-- A store of the first image, its accumulator rows the start's. -/
theorem step_start (k : ℕ) (hk : k < 8) (xs : Vec Ideal S512x512 .f32) (h : Holds all x0 x1 xs k L) (w : Vec Ideal S64x512 .f32)
    (hw : w = pay a1 h1 a2 h2 x0 x1 k (by omega)
      (View.readAt (Elt Ideal) a4.view (rows (64 * (k % 8)) (inRows _ (by omega))).toLoadRect (h4.unread xs))) :
    Holds all x0 x1 xs (k + 1) (⟨rows (64 * (k % 8)) (inRows _ (by omega)), w⟩ :: L) := by
  subst hw
  refine h.store (by omega) _ rfl _ _ _ _ _ (in64 _ _ 8 (by omega) (by omega)) (in8 _ _ 8 (by omega) (by omega))
    (in56 _ _ 8 (by omega) (by omega)) (in64 _ _ 4 (by omega) (by omega)) rfl rfl rfl rfl _
    (start_read (x0 := x0) (x1 := x1) hk _ (inRows _ (by omega))) _ ?_
  simp only [pay, View.readAt_eq_ld, h1.read_unread, h2.read_unread, h4.read_unread]

end Steps

/-- Before the first point's chunks the accumulator has been filled with zeros. -/
theorem start_zeros (x0 : Vec Ideal S8x512x512 .f32) (x1 : Vec Ideal S4x512x512 .f32)
    (ib : ∀ a, (![0, 0] : Fin 2 → ℕ) a + S512x512.size a ≤ S512x512.size a) :
    Holds True x0 x1 (fun _ => 0) 0 [⟨(Rect.unit ![0, 0] S512x512.size ib : Rect S512x512), k0_pay3 (F := Ideal)⟩] := by
  intro y _
  rw [Nat.div_eq_of_lt (by omega : 0 + 7 - (y 0).val / 64 < 8)]
  have hz : (![0, 0] : Fin 2 → ℕ) = fun _ => 0 := funext fun a => by fin_cases a <;> rfl
  have h := View.canon_unit_zero (Val := Elt Ideal) (e := .f32) (S := S512x512) hz ib (k0_pay3 (F := Ideal))
  refine (congrFun h y).trans ?_
  rw [eq_ix2 y]
  pointwise [k0_pay3]
  rfl

/-- The second point's stores: the accumulator is read where the first point left it. -/
theorem holds_B (c : Dev nD) (i : grid0.Coords) (a1 : Memref sig .tc .vmem S8x512x512 .f32) (h1 : a1.IsWhole)
    (a2 : Memref sig .tc .vmem S4x512x512 .f32) (h2 : a2.IsWhole) (a3 : Memref sig .tc .smem S1x1 .f32) (h3 : a3.IsWhole)
    (a4 : Memref sig .tc .vmem S512x512 .f32) (h4 : a4.IsWhole) (hc0 : ¬cond0_0 i) (hc1 : cond0_1 i)
    (x0 : Vec Ideal S8x512x512 .f32) (x1 : Vec Ideal S4x512x512 .f32) (xs : Vec Ideal S512x512 .f32) :
    Holds False x0 x1 xs 32 (kernelRun0_B (F := Ideal) c i a1 h1 a2 h2 a3 h3 a4 h4 hc0 hc1 x0 x1 xs).2.1 := by
  iterate 24
    refine step_read a1 h1 a2 h2 a4 x0 x1 _ (by decide) (.inr (by decide)) ?_ _ ?_
    rotate_left
    · rfl
  iterate 8
    refine step_start a1 h1 a2 h2 a4 h4 x0 x1 _ (by decide) xs ?_ _ ?_
    rotate_left
    · rfl
  intro y hy
  exact absurd hy (by simp)

/-- The first point's stores: the accumulator is filled with zeros, then read back throughout. -/
theorem holds_A (c : Dev nD) (i : grid0.Coords) (a1 : Memref sig .tc .vmem S8x512x512 .f32) (h1 : a1.IsWhole)
    (a2 : Memref sig .tc .vmem S4x512x512 .f32) (h2 : a2.IsWhole) (a3 : Memref sig .tc .smem S1x1 .f32) (h3 : a3.IsWhole)
    (a4 : Memref sig .tc .vmem S512x512 .f32) (h4 : a4.IsWhole) (hc0 : cond0_0 i) (hc1 : ¬cond0_1 i)
    (x0 : Vec Ideal S8x512x512 .f32) (x1 : Vec Ideal S4x512x512 .f32) :
    Holds True x0 x1 (fun _ => 0) 32 (kernelRun0_A (F := Ideal) c i a1 h1 a2 h2 a3 h3 a4 h4 hc0 hc1 x0 x1).2.1 := by
  iterate 32
    refine step_read a1 h1 a2 h2 a4 x0 x1 _ (by decide) (.inl trivial) ?_ _ ?_
    rotate_left
    · rfl
  exact start_zeros x0 x1 _

end Cert.KernelIdeal.Value

end
-- ==== Proof.K.Run.lean ====
/-
  What the kernel's result holds (hand-written): the accumulator after each grid point, the product with the named
  constant at the last point, the result array, and the scalar `@main` returns.
-/
module

public import proofs.«01_k».proof.Proof.K.Stores
public import Idealize.ShloMosaic.Lib.Pipeline.ValueKit
public import Idealize.ShloMosaic.Lib.StableHlo.Run
public import Idealize.ShloMosaic.Lib.Tactic
public import Idealize.ShloMosaic.Lib.Claim

@[expose] public section

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The named constant `-(log 2) / 2097152`, as an extended real. -/
abbrev negLn2N : EReal := (((-(Real.log 2)) * 2097152⁻¹ : ℝ) : EReal)

/-- The named constant `neg_ln2_over_n` is `-(log 2) / 2097152`. -/
theorem named_neg_ln2 : Named.named (F := Ideal) κ "neg_ln2_over_n" (φ := .f32) 0xB4B17218#32 = negLn2N :=
  IdealRules.named_const.ideal_named_scalar _ _ _ _ rfl

/-- Two zero offsets are the zero offsets. -/
theorem hz : (![0, 0] : Fin 2 → ℕ) = fun _ => 0 := funext fun a => by fin_cases a <;> rfl

/-- The last point's payload: the accumulator's sum times the constant. -/
theorem fin_apply (v : Vec Ideal S512x512 .f32) :
    k0_pay2 v = (∑ p : Fin 512, ∑ q : Fin 512, v (ix2 p q)) * negLn2N := by
  rw [← named_neg_ln2]
  pointwise [k0_pay2]

section Cases

variable (c : Dev nD) (i : grid0.Coords) (a1 : Memref sig .tc .vmem S8x512x512 .f32) (h1 : a1.IsWhole)
  (a2 : Memref sig .tc .vmem S4x512x512 .f32) (h2 : a2.IsWhole) (a3 : Memref sig .tc .smem S1x1 .f32) (h3 : a3.IsWhole)
  (a4 : Memref sig .tc .vmem S512x512 .f32) (h4 : a4.IsWhole)
  (x0 : Vec Ideal S8x512x512 .f32) (x1 : Vec Ideal S4x512x512 .f32)

/-- Every place has met all four images after 32 chunks. -/
theorem met (y : S512x512.Idx) : (32 + 7 - (y 0).val / 64) / 8 = 4 := by
  have h : (y 0).val < 512 := (y 0).isLt
  omega

/-- The last point's load of the whole accumulator reads, at each place, its start plus the four images' terms. -/
theorem whole_read {x0 : Vec Ideal S8x512x512 .f32} {x1 : Vec Ideal S4x512x512 .f32} {xs : Vec Ideal S512x512 .f32}
    {L : List (View.Piece (Elt Ideal) S512x512 .f32)} {sig' : RefSig} {k : Kind} {sp : Space} (v : View sig' k sp S512x512 .f32)
    (h : Holds False x0 x1 xs 32 L) (ib : ∀ a, (![0, 0] : Fin 2 → ℕ) a + S512x512.size a ≤ S512x512.size a) (y : S512x512.Idx) :
    v.readCov L (Rect.unit ![0, 0] S512x512.size ib : Rect S512x512).toLoadRect y = total x0 x1 xs y 4 := by
  rw [View.readCov_eq_canon']
  have e : (Rect.unit ![0, 0] S512x512.size ib : Rect S512x512).emb y = y := funext fun a => Fin.ext (by
    match a with
    | ⟨0, _⟩ => show 0 + 1 * (y 0).val = (y 0).val; omega
    | ⟨1, _⟩ => show 0 + 1 * (y 1).val = (y 1).val; omega)
  have hy : (y 0).val < 512 := (y 0).isLt
  refine (congrArg (View.canon L) e).trans ?_
  rw [h y (.inr (by omega)), met]

/-- The first point leaves in the accumulator the sums of its four images' terms. -/
theorem sout_A (hc0 : cond0_0 i) (hc1 : ¬cond0_1 i) :
    sout0_A_0 (F := Ideal) c i a1 h1 a2 h2 a3 h3 a4 h4 hc0 hc1 x0 x1 = fun y => total x0 x1 (fun _ => 0) y 4 := by
  unfold sout0_A_0
  rw [View.read_writes_eq_canon _ _ _ (scover0_A_0 c i a1 h1 a2 h2 a3 h3 a4 h4 hc0 hc1 x0 x1)]
  funext y
  rw [holds_A c i a1 h1 a2 h2 a3 h3 a4 h4 hc0 hc1 x0 x1 y (.inl trivial), met]

/-- The last point's one store to the output: its payload over the accumulator as the stores before left it. -/
theorem pieces_B (hc0 : ¬cond0_0 i) (hc1 : cond0_1 i) (xs : Vec Ideal S512x512 .f32) :
    (kernelRun0_B (F := Ideal) c i a1 h1 a2 h2 a3 h3 a4 h4 hc0 hc1 x0 x1 xs).1
      = [⟨(Rect.unit ![0, 0] S1x1.size inb_S1x1_S1x1_0_0 : Rect S1x1), fun _ => k0_pay2 (F := Ideal)
          (a4.view.readCov (kernelRun0_B (F := Ideal) c i a1 h1 a2 h2 a3 h3 a4 h4 hc0 hc1 x0 x1 xs).2.1
            (Rect.unit ![0, 0] S512x512.size inb_S512x512_S512x512_0_0 : Rect S512x512).toLoadRect)⟩] := by
  rfl

/-- The second point stores the sum over all places, of what it found plus its four images' terms, times the constant. -/
theorem out_B (hc0 : ¬cond0_0 i) (hc1 : cond0_1 i) (xs : Vec Ideal S512x512 .f32) :
    out0_B_2 (F := Ideal) c i a1 h1 a2 h2 a3 h3 a4 h4 hc0 hc1 x0 x1 xs
      = fun _ => (∑ p : Fin 512, ∑ q : Fin 512, total x0 x1 xs (ix2 p q) 4) * negLn2N := by
  unfold out0_B_2
  rw [View.read_writes_eq_canon _ _ _ (cover0_B_2 c i a1 h1 a2 h2 a3 h3 a4 h4 hc0 hc1 x0 x1 xs)]
  rewrite [pieces_B, View.canon_unit_zero hz]
  funext _
  rewrite [fin_apply]
  refine congrArg (· * negLn2N) (Finset.sum_congr rfl fun p _ => Finset.sum_congr rfl fun q _ => ?_)
  exact whole_read _ (holds_B c i a1 h1 a2 h2 a3 h3 a4 h4 hc0 hc1 x0 x1 xs) _ _

end Cases

variable (m : (ℓ : Loc nD τ sig) → Buf (Elt Ideal) ℓ) (ρ : Dev nD → PrngReg)

/-- What the run leaves in the result. -/
def result (c : Dev nD) : EReal :=
  (∑ p : Fin 512, ∑ q : Fin 512, total (iblk m c 0 t0_1) (iblk m c 1 t0_1)
    (fun y => total (iblk m c 0 t0_0) (iblk m c 1 t0_0) (fun _ => 0) y 4) (ix2 p q) 4) * negLn2N

/-- After the second point the output's buffer holds the result. -/
theorem outs_1 (c : Dev nD) : (outsAt0 m c t0_1.val t0_1.isLt).1 = fun _ => result m c := by
  rw [outsAt0_B m c t0_1 (by decide) (by decide)]
  dsimp only
  rw [out_B]
  have h := outsAt0_A m c t0_0 (by decide) (by decide)
  rw [show outsAt0 m c (t0_1.val - 1) _ = outsAt0 m c t0_0.val t0_0.isLt from rfl, h]
  dsimp only
  rw [sout_A]
  rfl

/-- The result array ends at it. -/
theorem final_o (c : Dev nD) : (dats m 0 c).arrAt 2 cfg0.N = fun _ => result m c := by
  refine (dats m 0 c).arrAt_eq_of_covers 2 _ (by decide +kernel) fun t hf y => ?_
  have h3 : t.val % 2 = 1 := (flush0_2 t).mp hf
  obtain rfl : t = t0_1 := by
    rcases fin_N0 t with rfl | rfl
    · exact absurd h3 (by decide)
    · rfl
  show (dats m 0 c).after 2 t0_1 _ = _
  rw [after0_2, outs_1]

/-- The run, read: the returned scalar at the result, the arguments unchanged. -/
theorem run : θ_run defs (onTc (τ := τ) (main (F := Ideal))) ⟨m, fun _ => 0, ρ⟩ fun r => ∀ c : Dev nD,
      r.2.mem ((c.tc : Thread nD τ).loc main_v2) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_, h.2 c⟩) (θ_run_and (run_main m ρ) (unchanged m ρ))
  rw [(h.1 c).2 main_v2 (Pipeline.mem_restRefs_of main_v2 (by decide) (by decide))]
  unfold Pipeline.afterTail₀
  simp only [hostOps1, List.flatten_cons, List.flatten_nil, List.append_nil]
  after_results
  rewrite [Pipeline.withArrays_arr spec0 (by decide) c (V0 m c) (fun w => (dats m 0 c).arrAt w cfg0.N) 2]
  rewrite [final_o]
  rfl

/-- As the kernel finds it, its score operand is the scores with the images' planes one after another. -/
theorem V_main_v0 (c : Dev nD) : V m c main_v0
    = shapeCast S16x512x512 (m ((c.tc : Thread nD τ).loc main_arg0)) shapeCasts_S8x2x512x512_S16x512x512 := by
  unfold V V0
  simp only [hostOps0, List.flatten_cons, List.flatten_nil, List.append_nil]
  after_results
  rfl

/-- The kernel's window on the scores reads, at point `t`, image `4t + b`'s plane `e` as its plane `2b + e`. -/
theorem scores_eq (c : Dev nD) (t : Fin cfg0.N) (b : Fin 4) (e : Fin 2) (p q : Fin 512) :
    (iblk m c 0 t : Vec Ideal S8x512x512 .f32) (ix3 (⟨2 * b.val + e.val, by omega⟩ : Fin 8) p q)
      = (m ((c.tc : Thread nD τ).loc main_arg0) : Vec Ideal S8x2x512x512 .f32)
          (ix4 (⟨4 * t.val + b.val, by have : t.val < 2 := lt_of_lt_of_eq t.isLt N_0; omega⟩ : Fin 8) e p q) := by
  have hN : t.val < 2 := lt_of_lt_of_eq t.isLt N_0
  have hi : win0_0.index t 0 = t.val ∧ win0_0.index t 1 = 0 ∧ win0_0.index t 2 = 0 := by
    rcases fin_N0 t with rfl | rfl <;> decide
  unfold iblk
  rw [View.read_apply]
  show V m c main_v0 _ = _
  have hj : ((cfg0.win 0).blk t).view.emb (ix3 (⟨2 * b.val + e.val, by omega⟩ : Fin 8) p q)
      = (ix3 (⟨8 * t.val + (2 * b.val + e.val), by omega⟩ : Fin 16) p q : S16x512x512.Idx) := by
    funext a
    apply Fin.ext
    match a with
    | ⟨0, _⟩ => show win0_0.index t 0 * 8 + 1 * (2 * b.val + e.val) = 8 * t.val + (2 * b.val + e.val); rw [hi.1]; omega
    | ⟨1, _⟩ => show win0_0.index t 1 * 512 + 1 * p.val = p.val; rw [hi.2.1]; omega
    | ⟨2, _⟩ => show win0_0.index t 2 * 512 + 1 * q.val = q.val; rw [hi.2.2]; omega
  refine (congrArg (V m c main_v0) hj).trans ?_
  rewrite [V_main_v0]
  refine shapeCast_apply _ _ _ _ ?_
  show (S8x2x512x512.rowMajor _).val = _
  rw [Shape.rowMajor_val_four, Shape.rowMajor_val_three]
  show (((4 * t.val + b.val) * 2 + e.val) * 512 + p.val) * 512 + q.val = ((8 * t.val + (2 * b.val + e.val)) * 512 + p.val) * 512 + q.val
  ring

/-- Its window on the ground truths reads, at point `t`, image `4t + b`'s plane as its plane `b`. -/
theorem truths_eq (c : Dev nD) (t : Fin cfg0.N) (b : Fin 4) (p q : Fin 512) :
    (iblk m c 1 t : Vec Ideal S4x512x512 .f32) (ix3 b p q)
      = (m ((c.tc : Thread nD τ).loc main_arg1) : Vec Ideal S8x512x512 .f32)
          (ix3 (⟨4 * t.val + b.val, by have : t.val < 2 := lt_of_lt_of_eq t.isLt N_0; omega⟩ : Fin 8) p q) := by
  have hN : t.val < 2 := lt_of_lt_of_eq t.isLt N_0
  have hi : win0_1.index t 0 = t.val ∧ win0_1.index t 1 = 0 ∧ win0_1.index t 2 = 0 := by
    rcases fin_N0 t with rfl | rfl <;> decide
  unfold iblk
  rw [View.read_apply]
  show V m c main_arg1 _ = _
  rw [V_main_arg1]
  congr 1
  funext a
  apply Fin.ext
  match a with
  | ⟨0, _⟩ => show win0_1.index t 0 * 4 + 1 * b.val = 4 * t.val + b.val; rw [hi.1]; omega
  | ⟨1, _⟩ => show win0_1.index t 1 * 512 + 1 * p.val = p.val; rw [hi.2.1]; omega
  | ⟨2, _⟩ => show win0_1.index t 2 * 512 + 1 * q.val = q.val; rw [hi.2.2]; omega

end Cert.KernelIdeal.Value

end
-- ==== Proof.K.Equal.lean ====
/-
  The equation (hand-written): over positive scores the kernel's result is the reference's mean.
-/
module

public import proofs.«01_k».proof.Proof.K.Run
public import proofs.«01_k».proof.Proof.Gen.ReferenceIdeal.Run
public import proofs.«01_k».proof.Proof.Gen.Pre_positive_scores
public import proofs.«01_k».proof.Defs

@[expose] public section

noncomputable section

namespace Cert.KernelIdeal.Value

open Cert.KernelIdeal Cert.KernelIdeal.Gen
open Idealize.ShloMosaic Idealize.ShloMosaic.TcCoe Idealize.SL.Sem

section Kernel

variable (m : (ℓ : Loc nD τ sig) → Buf (Elt Ideal) ℓ) (c : Dev nD)

/-- Image `n`'s term at the place `(p, q)`, from the arguments. -/
def img (s : Vec Ideal S8x2x512x512 .f32) (g : Vec Ideal S8x512x512 .f32) (p q : Fin 512) (n : Fin 8) : EReal :=
  mix (s (ix4 n 0 p q)) (s (ix4 n 1 p q)) (g (ix3 n p q))

/-- The block's term of image `b` at point `t` is that of image `4t + b`. -/
theorem term_eq (t : Fin cfg0.N) (b : ℕ) (hb : b < 4) (p q : Fin 512) (n : Fin 8) (hn : n.val = 4 * t.val + b) :
    term (iblk m c 0 t) (iblk m c 1 t) (ix2 p q) b
      = img (m ((c.tc : Thread nD τ).loc main_arg0)) (m ((c.tc : Thread nD τ).loc main_arg1)) p q n := by
  obtain ⟨n, hn'⟩ := n
  subst hn
  rw [term, dif_pos hb]
  exact congr (congr (congrArg mix (scores_eq m c t ⟨b, hb⟩ 0 p q)) (scores_eq m c t ⟨b, hb⟩ 1 p q)) (truths_eq m c t ⟨b, hb⟩ p q)

/-- The result, from the arguments: the eight images' terms summed at every place, the sum times the constant. -/
theorem result_eq : result m c = (∑ p : Fin 512, ∑ q : Fin 512, ∑ n : Fin 8,
    img (m ((c.tc : Thread nD τ).loc main_arg0)) (m ((c.tc : Thread nD τ).loc main_arg1)) p q n) * negLn2N := by
  rw [result]
  refine congrArg (· * negLn2N) (Finset.sum_congr rfl fun p _ => Finset.sum_congr rfl fun q _ => ?_)
  simp only [total, Fin.sum_univ_eight, zero_add]
  rw [term_eq m c t0_0 0 (by decide) p q 0 rfl, term_eq m c t0_0 1 (by decide) p q 1 rfl,
    term_eq m c t0_0 2 (by decide) p q 2 rfl, term_eq m c t0_0 3 (by decide) p q 3 rfl,
    term_eq m c t0_1 0 (by decide) p q 4 rfl, term_eq m c t0_1 1 (by decide) p q 5 rfl,
    term_eq m c t0_1 2 (by decide) p q 6 rfl, term_eq m c t0_1 3 (by decide) p q 7 rfl]

end Kernel

/-- Over real scores, two of them positive, an image's term is a real number's. -/
theorem mix_coe (a b g : ℝ) (ha : 0 < a) (hb : 0 < b) :
    mix (a : EReal) (b : EReal) (g : EReal)
      = ((Real.log b * (Real.log 2)⁻¹ + g * (Real.log a * (Real.log 2)⁻¹ - Real.log b * (Real.log 2)⁻¹) : ℝ) : EReal) := by
  unfold mix lg
  rw [Ideal.log_coe, Ideal.log_coe]
  simp only [if_neg (not_le.mpr ha), if_neg (not_le.mpr hb)]
  norm_cast

end Cert.KernelIdeal.Value

namespace Cert.ReferenceIdeal.Value

open Cert.ReferenceIdeal Cert.ReferenceIdeal.Gen
open Idealize.ShloMosaic Idealize.ShloMosaic.TcCoe Idealize.SL.Sem

/-- The reference's result, from its arguments. -/
abbrev out (s : FVec Ideal S8x2x512x512 .f32) (g : FVec Ideal S8x512x512 .f32) : FVec Ideal S_ .f32 :=
  Host.divf (Host.reduceAdd (Host.negf (Host.reduceAdd (mulf (concatenate S8x2x512x512 1 [⟨S8x1x512x512, (broadcastInDim S8x1x512x512 ![0, 2, 3] bcast_S8x512x512_S8x1x512x512_0_2_3 g)⟩, ⟨S8x1x512x512, (subf (broadcastInDim S8x1x512x512 ![] bcast_S_S8x1x512x512 (constant S_ .f32 0x3F800000#32)) (broadcastInDim S8x1x512x512 ![0, 2, 3] bcast_S8x512x512_S8x1x512x512_0_2_3 g))⟩] concatenates_S8x1x512x512_S8x1x512x512_S8x2x512x512_d1) (Host.log s)) (constant S_ .f32 0x00000000#32) reducesTo_S8x2x512x512_S8x512x512_d1 h_S_)) (constant S_ .f32 0x00000000#32) reducesTo_S8x512x512_S_d0_1_2 h_S_) (constant S_ .f32 0x4A000000#32)

/-- The divisor, the number of places in the eight images. -/
theorem places : Ideal.ofBits .f32 0x4A000000#32 = ((2097152 : ℝ) : EReal) := by
  simp [Ideal.ofBits, Ideal.ieee, -EReal.coe_mul]; norm_num

/-- The result read off: over all images and places, minus the sum of the truth times the logarithm of the first score and
    of one minus the truth times the logarithm of the second, divided by the number of places. -/
theorem out_eq (s : FVec Ideal S8x2x512x512 .f32) (g : FVec Ideal S8x512x512 .f32) (y : S_.Idx) :
    out s g y = (∑ n : Fin 8, ∑ p : Fin 512, ∑ q : Fin 512, -(g (ix3 n p q) * Ideal.log (s (ix4 n 0 p q))
      + (1 - g (ix3 n p q)) * Ideal.log (s (ix4 n 1 p q)))) * ((1 / 2097152 : ℝ) : EReal) := by
  pointwise [out]
  rw [places, Ideal.div_coe (by norm_num)]
  simp only [Fin.sum_univ_one, Finset.univ_unique, Finset.sum_const, Finset.card_singleton, one_smul]

/-- Over real scores, two of them positive, a place's loss is a real number's. -/
theorem loss_coe (a b g : ℝ) (ha : 0 < a) (hb : 0 < b) :
    -((g : EReal) * Ideal.log (a : EReal) + (1 - (g : EReal)) * Ideal.log (b : EReal))
      = ((-(g * Real.log a + (1 - g) * Real.log b) : ℝ) : EReal) := by
  rw [Ideal.log_coe, Ideal.log_coe]
  simp only [if_neg (not_le.mpr ha), if_neg (not_le.mpr hb)]
  norm_cast

end Cert.ReferenceIdeal.Value

namespace Cert.Proof

open Idealize.ShloMosaic Idealize.ShloMosaic.TcCoe
open Cert.KernelIdeal (S8x2x512x512 S8x512x512 S_)
open Cert.KernelIdeal.Value (img mix_coe negLn2N)

/-- One place of one image over the reals: the kernel's base-two term times `-(log 2) / N` is the place's loss over `N`. -/
theorem place_real (a b g : ℝ) :
    (b * (Real.log 2)⁻¹ + g * (a * (Real.log 2)⁻¹ - b * (Real.log 2)⁻¹)) * (-(Real.log 2) * 2097152⁻¹)
      = -(g * a + (1 - g) * b) * (1 / 2097152) := by
  have h : Real.log 2 ≠ 0 := (Real.log_pos (by norm_num)).ne'
  field_simp
  ring

/-- A finite sum of reals, taken over the extended reals, is the real sum. -/
theorem sum_coe {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- Both bits of a conjunction of two comparisons are set. -/
theorem both {a b : Prop} [Decidable a] [Decidable b]
    (h : IntOp.andi (BitVec.ofBool (decide a)) (BitVec.ofBool (decide b)) = 1#1) : a ∧ b := by
  by_cases ha : a <;> by_cases hb : b <;> simp_all [IntOp.andi]

/-- The precondition's two infinities. -/
theorem inf_top : Ideal.ofBits .f32 0x7F800000#32 = ⊤ := by simp [Ideal.ofBits, Ideal.ieee]
theorem inf_bot : Ideal.ofBits .f32 0xFF800000#32 = ⊥ := by simp [Ideal.ofBits, Ideal.ieee]

/-- THE EQUATION: over positive real scores and real truths the kernel's result is the reference's. -/
theorem equal (s : Vec Ideal S8x2x512x512 .f32) (g : Vec Ideal S8x512x512 .f32)
    (S : Fin 8 → Fin 2 → Fin 512 → Fin 512 → ℝ) (G : Fin 8 → Fin 512 → Fin 512 → ℝ)
    (hs : ∀ n e p q, s (ix4 n e p q) = (S n e p q : EReal)) (hpos : ∀ n e p q, 0 < S n e p q)
    (hg : ∀ n p q, g (ix3 n p q) = (G n p q : EReal)) (y : S_.Idx) :
    (∑ p : Fin 512, ∑ q : Fin 512, ∑ n : Fin 8, img s g p q n) * negLn2N = Cert.ReferenceIdeal.Value.out s g y := by
  rw [Cert.ReferenceIdeal.Value.out_eq]
  simp only [img, hs, hg, mix_coe _ _ _ (hpos _ _ _ _) (hpos _ _ _ _),
    Cert.ReferenceIdeal.Value.loss_coe _ _ _ (hpos _ _ _ _) (hpos _ _ _ _), negLn2N]
  simp only [sum_coe, ← EReal.coe_mul]
  refine congrArg _ ?_
  simp only [Finset.sum_mul, place_real]
  calc _ = ∑ p : Fin 512, ∑ n : Fin 8, ∑ q : Fin 512, _ := Finset.sum_congr rfl fun p _ => Finset.sum_comm
    _ = _ := Finset.sum_comm

open Cert.KernelIdeal in
/-- What the precondition says: every score a positive real, every truth a real. -/
theorem reals [Cert.Pre_positive_scores.Facts] (m : (ℓ : Loc nD τ sig) → Buf (Elt Ideal) ℓ) (h : Cert.Pre_KernelIdeal_positive_scores m) (c : Dev nD) :
    (∀ n e p q, ∃ x : ℝ, 0 < x ∧ (m ((c.tc : Thread nD τ).loc main_arg0) : Vec Ideal S8x2x512x512 .f32) (ix4 n e p q) = (x : EReal))
    ∧ ∀ n p q, ∃ x : ℝ, (m ((c.tc : Thread nD τ).loc main_arg1) : Vec Ideal S8x512x512 .f32) (ix3 n p q) = (x : EReal) := by
  obtain ⟨h0, h1⟩ := h c
  constructor
  · intro n e p q
    have h := congrFun h0 (ix4 n e p q)
    pointwise [Cert.Pre_positive_scores.fn] at h
    obtain ⟨hp, ht⟩ := both h
    rw [inf_top] at ht
    have e := EReal.coe_toReal ht.ne (EReal.bot_lt_zero.trans hp).ne'
    exact ⟨_, by rw [← e] at hp; exact_mod_cast hp, e.symm⟩
  · intro n p q
    have h := congrFun h1 (ix3 n p q)
    pointwise [Cert.Pre_positive_scores.fn] at h
    obtain ⟨hp, ht⟩ := both h
    rw [inf_bot] at hp
    rw [inf_top] at ht
    exact ⟨_, (EReal.coe_toReal ht.ne hp.ne').symm⟩

end Cert.Proof

end
-- ==== Proof.lean ====
/-
  The certificate assembled (hand-written): the runs of the three programs (Gen), the named constants' ledger, and the
  equation of the two results (K/Equal.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_positive_scores
public import proofs.«01_k».proof.Proof.K.Equal
public import Idealize.ShloMosaic.Lib.Quiescent

@[expose] public section

noncomputable section

namespace Cert.Proof

open Idealize.ShloMosaic Idealize.ShloMosaic.TcCoe Idealize.SL.Sem

/-- The reference runs, its arguments unchanged; it declares no semaphore. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The two named constants: the one the kernel's base-two logarithms take, and the one its mean takes. -/
theorem named : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "neg_ln2_over_n" .f32 0xB4B17218#32 (((-(Real.log 2)) * 2097152⁻¹ : ℝ) : EReal) rfl⟩

/-- Over positive scores the kernel and the reference return the same number. -/
theorem same : Cert.algebraic_KernelIdeal_ReferenceIdeal_pre_positive_scores := by
  intro m ρ m' ρ' hpre hagree
  refine ⟨_, Cert.KernelIdeal.Value.run m ρ, ?_⟩
  refine (θ_run _ _ _).mono (fun r h c => ⟨(h c).1.trans ?_, (h c).2⟩) (Cert.ReferenceIdeal.Value.run (F := Ideal) m' ρ')
  rewrite [(hagree c).1, (hagree c).2.1]
  obtain ⟨hs, hg⟩ := reals m hpre c
  choose S hS using hs
  choose G hG using hg
  funext y
  rewrite [Cert.KernelIdeal.Value.result_eq]
  exact (equal _ _ S G (fun n e p q => (hS n e p q).2) (fun n e p q => (hS n e p q).1) hG y).symm

/-- The whole certificate. -/
theorem claim : Cert.Claim := ⟨Cert.Kernel.Gen.facts, Cert.KernelIdeal.Gen.facts, Cert.ReferenceIdeal.Gen.facts, Cert.Pre_positive_scores.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, named, same⟩

end Cert.Proof

end
